-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_temperature_logit_above_minus_infinity [hPre_temperature_logit_above_minus_infinity : Cert.Pre_temperature_logit_above_minus_infinity.Facts] (m : (ℓ : Loc Cert.KernelIdeal.nD Cert.KernelIdeal.τ Cert.KernelIdeal.sig) → Buf (Elt Ideal) ℓ) : Prop :=
  ∀ c : Dev Cert.KernelIdeal.nD,
    (Cert.Pre_temperature_logit_above_minus_infinity.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_temperature_logit_above_minus_infinity [hPre_temperature_logit_above_minus_infinity : Cert.Pre_temperature_logit_above_minus_infinity.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_temperature_logit_above_minus_infinity.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_temperature_logit_above_minus_infinity [hKernelIdeal : Cert.KernelIdeal.Facts] [hPre_temperature_logit_above_minus_infinity : Cert.Pre_temperature_logit_above_minus_infinity.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_temperature_logit_above_minus_infinity m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_temperature_logit_above_minus_infinity [hReferenceIdeal : Cert.ReferenceIdeal.Facts] [hPre_temperature_logit_above_minus_infinity : Cert.Pre_temperature_logit_above_minus_infinity.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_temperature_logit_above_minus_infinity m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  True

def algebraic_KernelIdeal_ReferenceIdeal_pre_temperature_logit_above_minus_infinity [hKernelIdeal : Cert.KernelIdeal.Facts] [hReferenceIdeal : Cert.ReferenceIdeal.Facts] [hPre_temperature_logit_above_minus_infinity : Cert.Pre_temperature_logit_above_minus_infinity.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_temperature_logit_above_minus_infinity m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v9)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v9) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v13) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_temperature_logit_above_minus_infinity : Cert.Pre_temperature_logit_above_minus_infinity.Facts),
    quiescent_Kernel (hKernel := hKernel)
    ∧ quiescent_KernelIdeal (hKernelIdeal := hKernelIdeal)
    ∧ quiescent_KernelIdeal_pre_temperature_logit_above_minus_infinity (hKernelIdeal := hKernelIdeal) (hPre_temperature_logit_above_minus_infinity := hPre_temperature_logit_above_minus_infinity)
    ∧ quiescent_ReferenceIdeal (hReferenceIdeal := hReferenceIdeal)
    ∧ quiescent_ReferenceIdeal_pre_temperature_logit_above_minus_infinity (hReferenceIdeal := hReferenceIdeal) (hPre_temperature_logit_above_minus_infinity := hPre_temperature_logit_above_minus_infinity)
    ∧ preserves_Kernel_KernelIdeal
    ∧ algebraic_KernelIdeal_ReferenceIdeal_pre_temperature_logit_above_minus_infinity (hKernelIdeal := hKernelIdeal) (hReferenceIdeal := hReferenceIdeal) (hPre_temperature_logit_above_minus_infinity := hPre_temperature_logit_above_minus_infinity)
-- ==== Pre_temperature_logit_above_minus_infinity.lean ====
abbrev S1024x4096 : Shape := ⟨2, ![1024, 4096]⟩
abbrev S4096x100001 : Shape := ⟨2, ![4096, 100001]⟩
abbrev S100001 : Shape := ⟨1, ![100001]⟩
abbrev S4096x1 : Shape := ⟨2, ![4096, 1]⟩
abbrev S1024x1 : Shape := ⟨2, ![1024, 1]⟩
abbrev S1 : Shape := ⟨1, ![1]⟩
abbrev S1x1 : Shape := ⟨2, ![1, 1]⟩
abbrev S_ : Shape := ⟨0, ![]⟩

class Facts : Prop where
  slices_S4096x100001_S4096x1_0_100000 : S4096x100001.Slices ![0, 100000] S4096x1
  slices_S100001_S1_100000 : S100001.Slices ![100000] S1
  bcast_S1_S1x1_1 : S1.BroadcastsInDim S1x1 (![1] : Fin 1 → Fin S1x1.rank)
  bcast_S1x1_S1024x1_0_1 : S1x1.BroadcastsInDim S1024x1 (![0, 1] : Fin 2 → Fin S1024x1.rank)
  bcast_S_S1024x1 : S_.BroadcastsInDim S1024x1 (![] : Fin 0 → Fin S1024x1.rank)
  dot_S1024x4096_S4096x1_S1024x1_1_0_0_1_n_n_wf : DotDims.WF S1024x4096 S4096x1 S1024x1 [1] [0] [0] [1] [] []

variable [Facts]

def dot_S1024x4096_S4096x1_S1024x1_1_0_0_1_n_n : DotDims S1024x4096 S4096x1 S1024x1 where
  lhsContracting := [1]
  rhsContracting := [0]
  lhsNonContracting := [0]
  rhsNonContracting := [1]
  lhsBatch := []
  rhsBatch := []
  wf := dot_S1024x4096_S4096x1_S1024x1_1_0_0_1_n_n_wf
def fn {F : FTy → Type} [FloatOps F] (main_arg0 : FVec F S1024x4096 .f32) (main_arg1 : FVec F S4096x100001 .f32) (main_arg2 : FVec F S100001 .f32) : IVec S1024x1 1 :=
  let main_v0 : FVec F S4096x1 .f32 := (extractStridedSlice S4096x1 ![0, 100000] · slices_S4096x100001_S4096x1_0_100000) main_arg1
  let main_v1 : FVec F S1024x1 .f32 := (fun l r => Host.dotGeneral dot_S1024x4096_S4096x1_S1024x1_1_0_0_1_n_n none l r) main_arg0 main_v0
  let main_v2 : FVec F S1 .f32 := (extractStridedSlice S1 ![100000] · slices_S100001_S1_100000) main_arg2
  let main_v3 : FVec F S1x1 .f32 := broadcastInDim S1x1 ![1] bcast_S1_S1x1_1 main_v2
  let main_v4 : FVec F S1024x1 .f32 := broadcastInDim S1024x1 ![0, 1] bcast_S1x1_S1024x1_0_1 main_v3
  let main_v5 : FVec F S1024x1 .f32 := addf main_v1 main_v4
  let main_cst : FVec F S_ .f32 := constant S_ .f32 0xFF800000#32
  let main_v6 : FVec F S1024x1 .f32 := broadcastInDim S1024x1 ![] bcast_S_S1024x1 main_cst
  let main_v7 : IVec S1024x1 1 := cmpf .ogt main_v5 main_v6
  main_v7
-- ==== Kernel.lean ====
abbrev S1024x4096 : Shape := ⟨2, ![1024, 4096]⟩
abbrev S4096x100001 : Shape := ⟨2, ![4096, 100001]⟩
abbrev S100001 : Shape := ⟨1, ![100001]⟩
abbrev S100001x4096 : Shape := ⟨2, ![100001, 4096]⟩
abbrev S1x4096 : Shape := ⟨2, ![1, 4096]⟩
abbrev S1 : Shape := ⟨1, ![1]⟩
abbrev S_ : Shape := ⟨0, ![]⟩
abbrev S1x1 : Shape := ⟨2, ![1, 1]⟩
abbrev S100000 : Shape := ⟨1, ![100000]⟩
abbrev S100000x1 : Shape := ⟨2, ![100000, 1]⟩
abbrev S8x1024 : Shape := ⟨2, ![8, 1024]⟩
abbrev S4096x1024 : Shape := ⟨2, ![4096, 1024]⟩
abbrev S1x1024 : Shape := ⟨2, ![1, 1024]⟩
abbrev S100000x1024 : Shape := ⟨2, ![100000, 1024]⟩
abbrev S1024x1 : Shape := ⟨2, ![1024, 1]⟩
abbrev S1024x1024 : Shape := ⟨2, ![1024, 1024]⟩
abbrev S1024x100000 : Shape := ⟨2, ![1024, 100000]⟩

abbrev nBuf : Space → Nat
  | .hbm => 14
  | .vmem => 13
  | .smem => 0
  | _ => 0

abbrev bufTy : (tb : Table) → Fin (tcTables nBuf tb) → BufTy
  | .hbm, ⟨0, _⟩ => ⟨S1024x4096, .f32⟩
  | .hbm, ⟨1, _⟩ => ⟨S4096x100001, .f32⟩
  | .hbm, ⟨2, _⟩ => ⟨S100001, .f32⟩
  | .hbm, ⟨3, _⟩ => ⟨S100001x4096, .f32⟩
  | .hbm, ⟨4, _⟩ => ⟨S1x4096, .f32⟩
  | .hbm, ⟨5, _⟩ => ⟨S1, .f32⟩
  | .hbm, ⟨6, _⟩ => ⟨S_, .f32⟩
  | .hbm, ⟨7, _⟩ => ⟨S1x1, .f32⟩
  | .hbm, ⟨8, _⟩ => ⟨S100000, .f32⟩
  | .hbm, ⟨9, _⟩ => ⟨S100000x1, .f32⟩
  | .hbm, ⟨10, _⟩ => ⟨S8x1024, .f32⟩
  | .hbm, ⟨11, _⟩ => ⟨S4096x1024, .bf16⟩
  | .hbm, ⟨12, _⟩ => ⟨S100000x1024, .f32⟩
  | .hbm, ⟨13, _⟩ => ⟨S1024x100000, .f32⟩
  | .local _ .vmem, ⟨0, _⟩ => ⟨S1024x4096, .f32⟩
  | .local _ .vmem, ⟨1, _⟩ => ⟨S1x4096, .f32⟩
  | .local _ .vmem, ⟨2, _⟩ => ⟨S1x1, .f32⟩
  | .local _ .vmem, ⟨3, _⟩ => ⟨S8x1024, .f32⟩
  | .local _ .vmem, ⟨4, _⟩ => ⟨S4096x1024, .bf16⟩
  | .local _ .vmem, ⟨5, _⟩ => ⟨S1024x4096, .f32⟩
  | .local _ .vmem, ⟨6, _⟩ => ⟨S1024x4096, .f32⟩
  | .local _ .vmem, ⟨7, _⟩ => ⟨S4096x1024, .bf16⟩
  | .local _ .vmem, ⟨8, _⟩ => ⟨S8x1024, .f32⟩
  | .local _ .vmem, ⟨9, _⟩ => ⟨S1024x1, .f32⟩
  | .local _ .vmem, ⟨10, _⟩ => ⟨S1024x1, .f32⟩
  | .local _ .vmem, ⟨11, _⟩ => ⟨S1024x1024, .f32⟩
  | .local _ .vmem, ⟨12, _⟩ => ⟨S1024x1024, .f32⟩
  | _, _ => ⟨S1024x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7_0 : Ref sig .tc := ⟨.hbm, 10, rfl⟩
abbrev main_v7_1 : Ref sig .tc := ⟨.hbm, 11, rfl⟩
abbrev main_v8 : Ref sig .tc := ⟨.hbm, 12, rfl⟩
abbrev main_v9 : Ref sig .tc := ⟨.hbm, 13, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg3_0 : Ref sig .tc := ⟨.vmem, 9, rfl⟩
abbrev cc1_stg3_1 : Ref sig .tc := ⟨.vmem, 10, rfl⟩
abbrev cc1_stg4_0 : Ref sig .tc := ⟨.vmem, 11, rfl⟩
abbrev cc1_stg4_1 : Ref sig .tc := ⟨.vmem, 12, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem3_0 : DmaSem sig := 9
abbrev cc1_sem3_1 : DmaSem sig := 10
abbrev cc1_sem4_0 : DmaSem sig := 11
abbrev cc1_sem4_1 : DmaSem sig := 12

abbrev nD : Nat := 1
abbrev τ : Topo := Topo.v7x

variable {F : FTy → Type} [FloatOps F]

abbrev grid0 : Pipeline.Grid := .none

abbrev stage0_0 : Fin 1 → Memref sig .tc .vmem S1024x4096 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1x4096 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S8x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S4096x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev grid1 : Pipeline.Grid := ⟨1, ![98], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S1024x4096 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S4096x1024 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S8x1024 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S1024x1 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 2 → Memref sig .tc .vmem S1024x1024 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]
-- ==== ReferenceIdeal.lean ====
abbrev S1024x4096 : Shape := ⟨2, ![1024, 4096]⟩
abbrev S4096x100001 : Shape := ⟨2, ![4096, 100001]⟩
abbrev S100001 : Shape := ⟨1, ![100001]⟩
abbrev S1024x100001 : Shape := ⟨2, ![1024, 100001]⟩
abbrev S1x100001 : Shape := ⟨2, ![1, 100001]⟩
abbrev S1024x100000 : Shape := ⟨2, ![1024, 100000]⟩
abbrev S1024x1 : Shape := ⟨2, ![1024, 1]⟩
abbrev S_ : Shape := ⟨0, ![]⟩

abbrev nBuf : Space → Nat
  | .hbm => 19
  | .vmem => 0
  | .smem => 0
  | _ => 0

abbrev bufTy : (tb : Table) → Fin (tcTables nBuf tb) → BufTy
  | .hbm, ⟨0, _⟩ => ⟨S1024x4096, .f32⟩
  | .hbm, ⟨1, _⟩ => ⟨S4096x100001, .f32⟩
  | .hbm, ⟨2, _⟩ => ⟨S100001, .f32⟩
  | .hbm, ⟨3, _⟩ => ⟨S1024x100001, .f32⟩
  | .hbm, ⟨4, _⟩ => ⟨S1x100001, .f32⟩
  | .hbm, ⟨5, _⟩ => ⟨S1024x100001, .f32⟩
  | .hbm, ⟨6, _⟩ => ⟨S1024x100001, .f32⟩
  | .hbm, ⟨7, _⟩ => ⟨S1024x100000, .f32⟩
  | .hbm, ⟨8, _⟩ => ⟨S1024x1, .f32⟩
  | .hbm, ⟨9, _⟩ => ⟨S1024x1, .f32⟩
  | .hbm, ⟨10, _⟩ => ⟨S1024x1, .f32⟩
  | .hbm, ⟨11, _⟩ => ⟨S_, .f32⟩
  | .hbm, ⟨12, _⟩ => ⟨S1024x1, .f32⟩
  | .hbm, ⟨13, _⟩ => ⟨S1024x1, .f32⟩
  | .hbm, ⟨14, _⟩ => ⟨S_, .f32⟩
  | .hbm, ⟨15, _⟩ => ⟨S1024x1, .f32⟩
  | .hbm, ⟨16, _⟩ => ⟨S1024x1, .f32⟩
  | .hbm, ⟨17, _⟩ => ⟨S1024x100000, .f32⟩
  | .hbm, ⟨18, _⟩ => ⟨S1024x100000, .f32⟩
  | _, _ => ⟨S1024x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_cst : Ref sig .tc := ⟨.hbm, 11, rfl⟩
abbrev main_v8 : Ref sig .tc := ⟨.hbm, 12, rfl⟩
abbrev main_v9 : Ref sig .tc := ⟨.hbm, 13, rfl⟩
abbrev main_cst_0 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩

abbrev nD : Nat := 1
abbrev τ : Topo := Topo.v7x

variable {F : FTy → Type} [FloatOps F]
-- ==== Proof.HeldRegion.lean ====
/-
  A kernel region whose body is described by a RELATION, entered from and left at a set of whole buffers.

  The region is entered with every unscoped buffer of the core held whole at a known valuation. It is left with every
  unscoped buffer held whole at SOME valuation: on the buffers behind the region's windows it holds contents that the
  relation allows (`Left`), on every other buffer it holds what it held before. `regionOfHeld` is the region's record;
  `hostAfter` is the host stretch that runs next, from a valuation of which only a pure fact is known.
-/
module

public import Idealize.ShloMosaic.Lib.Pipeline.RegionArrays

@[expose] public section

noncomputable section

namespace Cert.HeldRegion

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline

variable {nD : Nat} {τ : Topo} {sig : RefSig} {Val : EltTy → Type}
variable {Ix : Type} [DecidableEq Ix] {Name : Type} [DecidableEq Name] {U : Type} [URA U] {Lvl : Type} [Preorder Lvl]
variable {Λ₀ : Idealize.SL.Sem.Labels} {P : Type} [Fintype P]

local notation "𝕄" => MT nD τ sig Ix Val Name U Lvl

/-- The core owes nothing. -/
abbrev Clear (c : Dev nD) : sProp 𝕄 := iprop(∃ W, owes (c.tc : Thread nD τ) (0 : CellTallies nD τ sig Ix) W)

/-- A valuation can be changed at the buffers behind the windows of a pipeline, each to given contents, and nowhere else:
    the windows' buffers are distinct. -/
theorem exists_overwritten {gr W : Nat} (win : Fin W → WinSpec sig gr) (hinj : Function.Injective (arrRef win))
    (V : Valuation τ sig Val) (G : (w : Fin W) → (Proc.devRef (τ := τ) .tc (arrRef win w) : DevRef τ sig).ty.Contents Val) :
    ∃ V' : Valuation τ sig Val, (∀ w, V' (Proc.devRef .tc (arrRef win w)) = G w) ∧ ∀ b, b ∉ arrRefs (τ := τ) win → V' b = V b := by
  classical
  have hinj' : Function.Injective fun w => (Proc.devRef (τ := τ) .tc (arrRef win w) : DevRef τ sig) :=
    (Proc.devRef_injective (sig := sig) _).comp hinj
  refine ⟨fun b => if h : ∃ w, (Proc.devRef (τ := τ) .tc (arrRef win w) : DevRef τ sig) = b then h.choose_spec ▸ G h.choose else V b,
    fun w => ?_, fun b hb => ?_⟩
  · have h : ∃ w', (Proc.devRef (τ := τ) .tc (arrRef win w') : DevRef τ sig) = Proc.devRef .tc (arrRef win w) := ⟨w, rfl⟩
    beta_reduce; rw [dif_pos h]
    have key : ∀ (w' : Fin W) (e : (Proc.devRef (τ := τ) .tc (arrRef win w') : DevRef τ sig) = Proc.devRef .tc (arrRef win w)), (e ▸ G w' : (Proc.devRef (τ := τ) .tc (arrRef win w) : DevRef τ sig).ty.Contents Val) = G w := by
      intro w' e
      obtain rfl := hinj' e
      rfl
    exact key _ h.choose_spec
  · refine dif_neg fun ⟨w, hw⟩ => hb ?_
    rw [← hw]
    exact Finset.mem_map.mpr ⟨arrRef win w, Finset.mem_image.mpr ⟨w, Finset.mem_univ w, rfl⟩, rfl⟩

section Region

variable (pcs : P → PCfg sig Λ₀ Val) (a : (p : P) → (pcs p).Adm)
  (rdats : (p : P) → (c : Dev nD) → RDat τ Val Ix Name U Lvl (pin pcs a p) c) (ι : Ix)
  (defs₀ : Defs nD τ sig Val Λ₀) (𝒱₀ : Variants)
  (L : GSem nD τ sig → Finset Ix) (lv : GSem nD τ sig → Ix → Lvl) (p : P)

/-- What the region leaves: the windows' buffers at contents the relation allows after every write-back, every other
    buffer as it was. -/
def Left (V : Dev nD → Valuation τ sig Val) (c : Dev nD) (V' : Valuation τ sig Val) : Prop :=
  (∀ w, (rdats p c).ArrAt w (pin pcs a p).N (V' (Proc.devRef .tc (arrRef (pin pcs a p).spec w))))
    ∧ ∀ b, b ∉ arrRefs (τ := τ) (pin pcs a p).spec → V' b = V c b

omit [Fintype P] [Preorder Lvl] in
/-- The pipeline's arrays at contents read off a valuation are the windows' buffers held at that valuation. -/
theorem arrays_eq_held (kit : PLaunchFacts (nD := nD) (τ := τ) pcs p) (c : Dev nD) (hshare : ∀ w, (rdats p c).share w = fullShare)
    (G : (w : Fin (pin pcs a p).W) → Buf Val (((pin pcs a p).win w).arr.view.loc (c.tc : Thread nD τ))) (V : Valuation τ sig Val)
    (hG : ∀ w, G w = V (Proc.devRef .tc (arrRef (pin pcs a p).spec w))) :
    (bigSep Finset.univ fun w => (((c.tc : Thread nD τ).loc (arrRef (pin pcs a p).spec w)) ↦{fullShare} G w : sProp 𝕄))
      = StableHlo.held (c.tc : Thread nD τ) (arrRefs (pcs p).spec) V := by
  unfold StableHlo.held arrRefs
  rw [bigSep_map, show Finset.univ.image (arrRef (pcs p).spec) = Finset.univ.map ⟨arrRef (pcs p).spec, kit.win.arr_inj⟩ from
    (Finset.map_eq_image ⟨arrRef (pcs p).spec, kit.win.arr_inj⟩ Finset.univ).symm, bigSep_map]
  exact bigSep_congr fun w _ => by rw [hG]; rfl

omit [Fintype P] [Preorder Lvl] in
/-- After the region the pipeline's arrays hold, together, SOME contents the relation allows. -/
theorem arraysAt_some [∀ e, Nonempty (Val e)] (kit : PLaunchFacts (nD := nD) (τ := τ) pcs p) (c : Dev nD) (hshare : ∀ w, (rdats p c).share w = fullShare) (n : Nat) :
    ((rdats p c).arraysAt n : sProp 𝕄) ⊢ iprop(∃ G : (w : Fin (pin pcs a p).W) → Buf Val (((pin pcs a p).win w).arr.view.loc (c.tc : Thread nD τ)),
      ⌜∀ w, (rdats p c).ArrAt w n (G w)⌝
        ∗ bigSep Finset.univ fun w => (((c.tc : Thread nD τ).loc (arrRef (pin pcs a p).spec w)) ↦{fullShare} G w : sProp 𝕄)) := by
  classical
  rw [RDat.arraysAt_eq pcs a rdats p c kit.arr_whole hshare n]
  refine (BI.bigSep_exists_pi Finset.univ _).trans ?_
  iintro ⟨%G, H⟩
  ihave H' := (BI.bigSep_pure_sep Finset.univ (fun w => (rdats p c).ArrAt w n (G w)) _) $$ H
  icases H' with ⟨%hG, H⟩
  iexists G
  isplitr
  · ipureintro; exact fun w => hG w (Finset.mem_univ w)
  iexact H

omit [Fintype P] [Preorder Lvl] in
/-- Inputs held at the full share: every array is. -/
theorem share_full (c : Dev nD) (hq : ∀ w, (rdats p c).q w = fullShare) (w : Fin (pin pcs a p).W) : (rdats p c).share w = fullShare := by
  unfold RDat.share; split
  · rfl
  · exact hq w

set_option backward.isDefEq.respectTransparency.types false in
/-- THE REGION: entered with the unscoped buffers held at `V c` and nothing owed; left with them held at some valuation
    `Left` allows, and nothing owed. The kernel has no prefetched table and no semaphore of its own, its data's invariant
    is the scoped buffers that no window stages, and the entry contents of the arrays are read off `V c`. -/
def regionOfHeld [∀ e, Nonempty (Val e)] (kit : PLaunchFacts (nD := nD) (τ := τ) pcs p) (hK : (pcs p).pre.K = 0)
    (hbody : ∀ c, (rdats p c).BodyObligation defs₀ 𝒱₀ ι Set.univ)
    (howed : ∀ c t, (rdats p c).owed t = 0) (hrec : ∀ c, (rdats p c).recorded 0 = Set.univ)
    (hq : ∀ c w, (rdats p c).q w = fullShare)
    (hΦ : ∀ c t, (rdats p c).Φ t = scopedRest (pin pcs a p).spec c)
    (V : Dev nD → Valuation τ sig Val)
    (hV : ∀ c w, (rdats p c).A w = V c (Proc.devRef .tc (arrRef (pin pcs a p).spec w))) :
    RDat.RegionSeg pcs a rdats ι defs₀ 𝒱₀ L lv p where
  win := kit.win.to₀
  block_pos := kit.block_pos
  stage_whole := kit.stage_whole
  K := PEmpty
  osem k := k.elim
  ho := OwnSemFacts.none _
  hbody := hbody
  hwaits := RDat.hwaits_of_owed_zero _ _ _ _ L lv p howed
  pre c := iprop(StableHlo.held (c.tc : Thread nD τ) (ucRefs τ sig) (V c) ∗ Clear c)
  post c := iprop(∃ V' : Valuation τ sig Val, ⌜Left pcs a rdats p V c V'⌝ ∗ StableHlo.held (c.tc : Thread nD τ) (ucRefs τ sig) V' ∗ Clear c)
  X c := iprop(emp)
  Y c := iprop(emp)
  Z c := StableHlo.held (c.tc : Thread nD τ) (ucRefs τ sig \ arrRefs (pcs p).spec) (V c)
  hentry c := by
    rw [ownSems0_none, prefHeld_of_none _ hK, StableHlo.held_sub_split _ (arrRefs_sub_ucRefs (pcs p).spec kit.win.to₀.arr_unscoped) (V c),
      RDat.arrays_eq pcs a rdats p c kit.arr_whole (share_full pcs a rdats p c (hq c)), arrays_eq_held pcs a rdats p kit c (share_full pcs a rdats p c (hq c)) _ (V c) (hV c)]
    iintro ⟨⟨⟨Ha, Hr⟩, HO⟩, -, -⟩
    imodintro
    isplitl [Ha]; · iexact Ha
    isplitr; · iempintro
    isplitl [HO]
    · unfold RDat.owesAt owesWithin RDat.bound
      rw [howed c 0, hrec c]
      icases HO with ⟨%W, HO⟩; iexists W; isplitr; · ipureintro; exact fun _ _ => Or.inl trivial
      iexact HO
    isplitr; · iempintro
    iexact Hr
  hin c := by
    rw [hΦ]
    iintro ⟨-, -, Hr⟩
    iexact Hr
  hout c := by
    rw [hΦ, ownSems0_none]
    iintro Hr
    isplitr; · iempintro
    isplitr; · iempintro
    iexact Hr
  hexit c := by
    iintro ⟨Ha, HO, -, Hr⟩
    ihave Ha' := (arraysAt_some pcs a rdats p kit c (share_full pcs a rdats p c (hq c)) _) $$ Ha
    icases Ha' with ⟨%G, %hG, Ha⟩
    imodintro
    obtain ⟨V', hV', hrest⟩ := exists_overwritten (τ := τ) (pcs p).spec kit.win.arr_inj (V c) G
    iexists V'
    isplitr
    · ipureintro
      exact ⟨fun w => by rw [show V' (Proc.devRef .tc (arrRef (pin pcs a p).spec w)) = G w from hV' w]; exact hG w, hrest⟩
    isplitr [HO]
    · rw [StableHlo.held_sub_split _ (arrRefs_sub_ucRefs (pcs p).spec kit.win.to₀.arr_unscoped) V']
      isplitl [Ha]
      · rw [← arrays_eq_held pcs a rdats p kit c (share_full pcs a rdats p c (hq c)) G V' fun w => (hV' w).symm]
        iexact Ha
      · rw [StableHlo.held_congr _ (V := V') (V' := V c) fun b hb => hrest b (Finset.mem_sdiff.mp hb).2]
        iexact Hr
    · unfold RDat.owesAt owesWithin
      rw [howed c (Fin.last _)]
      icases HO with ⟨%W, -, HO⟩; iexists W; iexact HO

end Region

section Host

variable (pcs : P → PCfg sig Λ₀ Val)
  (defs₀ : Defs nD τ sig Val Λ₀) (𝒱₀ : Variants)
  (L : GSem nD τ sig → Finset Ix) (lv : GSem nD τ sig → Ix → Lvl)

set_option backward.isDefEq.respectTransparency.types false in
/-- A host stretch run from SOME valuation of which the fact `I c` holds: it leaves the buffers at the stretch's result on
    some valuation of which `I c` holds. -/
def hostAfter (ops : List (HloOp τ sig Val)) (hS : ∀ op ∈ ops, op.bufs ⊆ ucRefs τ sig) (hf : ∀ op ∈ ops, op.fresh = ∅)
    (I : Dev nD → Valuation τ sig Val → Prop) : HostSeg (Ix := Ix) (Name := Name) (U := U) (Lvl := Lvl) pcs defs₀ 𝒱₀ L lv where
  prog := StableHlo.seq ops
  pre c := iprop(∃ V : Valuation τ sig Val, ⌜I c V⌝ ∗ StableHlo.held (c.tc : Thread nD τ) (ucRefs τ sig) V ∗ Clear c)
  post c := iprop((∃ V : Valuation τ sig Val, ⌜I c V⌝ ∗ StableHlo.held (c.tc : Thread nD τ) (ucRefs τ sig) (StableHlo.after ops V)) ∗ Clear c)
  run c {β} k K := by
    iintro ⟨Hk, Hbd, ⟨%V, %hV, Hh, HO⟩, Hl⟩
    have hrun := (HostSeg.ofOps (Ix := Ix) (Name := Name) (U := U) (Lvl := Lvl) pcs defs₀ 𝒱₀ L lv (ucRefs τ sig) ops hS hf (fun _ => V) Clear).run c k K
    dsimp only [HostSeg.ofOps] at hrun
    iapply hrun
    isplitl [Hk]
    · iintro ⟨Hbd, Hh, HO⟩
      iapply Hk
      isplitl [Hbd]; · iexact Hbd
      isplitl [Hh]
      · iexists V
        isplitr; · ipureintro; exact hV
        iexact Hh
      iexact HO
    isplitl [Hbd]; · iexact Hbd
    isplitl [Hh HO]
    · isplitl [Hh] <;> iassumption
    iexact Hl

end Host

end Cert.HeldRegion

end
-- ==== Proof.KernelIdealBody.lean ====
/-
  What one grid point's kernel body does to its staging buffers, for each of the program's two kernels.

  The first kernel stores `k0_pay1` of its three inputs and `k0_pay2` of its first; the second stores `k1_pay1` of its
  inputs, reading row 0 of the eight equal rows of the reciprocal temperatures. Each is stated for ANY whole staging
  buffers, so that one statement serves every slot.
-/
module

public import proofs.«01_k».proof.Proof.HeldRegion
public import proofs.«01_k».proof.Proof.Gen.KernelIdeal.Launch
public import proofs.«01_k».proof.Proof.Gen.KernelIdeal.Skeleton
public import proofs.«01_k».proof.Proof.Gen.KernelIdeal.Points
public import proofs.«01_k».proof.Proof.Gen.KernelIdeal.Regions
public import Idealize.ShloMosaic.Lib.Pipeline.ArrRel
public import Idealize.ShloMosaic.Lib.Pipeline.FrameBody
public import Idealize.ShloMosaic.Lib.Pipeline.KitQuiescent
public import Idealize.ShloMosaic.Lib.Tactic

@[expose] public section

noncomputable section

namespace Cert.KernelIdealRun

open Cert.KernelIdeal Cert.KernelIdeal.Gen

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

/-- The kernels' variants: none. -/
abbrev 𝒱₀ : Variants := Variants.none

/-- Row 0 of an eight-row block. -/
def topRow (Y : S8x1024.Idx → Elt F .f32) : S1x1024.Idx → Elt F .f32 :=
  fun j => Y ((Rect.unit (s := S8x1024) ![0, 0] S1x1024.size inb_S8x1024_S1x1024_0_0).idx j)

/-- The two ways of writing the zero offset. -/
theorem zero_offset : (![0, 0] : Fin 2 → Nat) = fun _ => 0 := funext fun a => by fin_cases a <;> rfl

section Whole

variable {sp : Space} {s : Shape} {e : EltTy}

/-- Owning a whole memref is its buffer's points-to at contents that read as stated. -/
theorem owns_of_whole (c : Thread nD τ) (m : Memref sig c.2.kind sp s e) (h : m.IsWhole) (q : PosShare TreeShare) (X : s.Idx → Elt F e) :
    (owns c m q X : sProp 𝕄) = iprop(∃ f, ⌜m.view.read (Elt F) f = X⌝ ∗ (m.view.loc c ↦{q} f)) := by
  unfold owns; rw [h.set_eq_univ]

/-- A load of a whole memref at offset zero and its own size reads what it holds. -/
theorem load_whole {κ : Kind} (m : Memref sig κ sp s e) (h : m.IsWhole) {off : Fin s.rank → Nat} (ho : off = fun _ => 0)
    (inb : ∀ a, off a + s.size a ≤ s.size a) (f : m.view.ty.Contents (Elt F)) :
    m.view.readAt (Elt F) (Rect.unit off s.size inb).toLoadRect f = m.view.read (Elt F) f := by
  obtain ⟨b, rfl, rfl, rfl, hm⟩ := h
  obtain rfl := eq_of_heq hm
  rw [Memref.readAt_unit_zero (Elt F) b ho inb f]
  simp only [Memref.view_whole, View.read_whole]

/-- An unmasked store to a whole memref at offset zero and its own size leaves it holding what was stored. -/
theorem store_whole {κ : Kind} (m : Memref sig κ sp s e) (h : m.IsWhole) {off : Fin s.rank → Nat} (ho : off = fun _ => 0)
    (inb : ∀ a, off a + s.size a ≤ s.size a) (f : m.view.ty.Contents (Elt F)) (w : s.Idx → Elt F e) :
    m.view.read (Elt F) ((m.access (Rect.unit off s.size inb) : View sig κ _ _ _).write (Elt F) f w Finset.univ) = w := by
  obtain ⟨b, rfl, rfl, rfl, hm⟩ := h
  obtain rfl := eq_of_heq hm
  rw [Memref.write_access_unit_zero_univ (Elt F) b ho inb f w]
  simp only [Memref.view_whole, View.read_whole]

end Whole

/-- The first kernel's body. -/
theorem body0 (c : Dev nD) (E : Set ℕ)
    (m0 : Memref sig .tc .vmem S1024x4096 .f32) (h0 : m0.IsWhole) (m1 : Memref sig .tc .vmem S1x4096 .f32) (h1 : m1.IsWhole)
    (m2 : Memref sig .tc .vmem S1x1 .f32) (h2 : m2.IsWhole) (m3 : Memref sig .tc .vmem S8x1024 .f32) (h3 : m3.IsWhole)
    (m4 : Memref sig .tc .vmem S4096x1024 .bf16) (h4 : m4.IsWhole)
    (X0 : S1024x4096.Idx → Elt F .f32) (X1 : S1x4096.Idx → Elt F .f32) (X2 : S1x1.Idx → Elt F .f32)
    (X3 : S8x1024.Idx → Elt F .f32) (X4 : S4096x1024.Idx → Elt F .bf16) (K : PUnit → sProp 𝕄) :
    iprop((owns (c : Thread nD τ) m0 fullShare X0 ∗ owns (c : Thread nD τ) m1 fullShare X1 ∗ owns (c : Thread nD τ) m2 fullShare X2
            ∗ owns (c : Thread nD τ) m3 fullShare X3 ∗ owns (c : Thread nD τ) m4 fullShare X4)
          ∗ (iprop(owns (c : Thread nD τ) m0 fullShare X0 ∗ owns (c : Thread nD τ) m1 fullShare X1 ∗ owns (c : Thread nD τ) m2 fullShare X2
            ∗ owns (c : Thread nD τ) m3 fullShare (k0_pay1 X1 X0 X2) ∗ owns (c : Thread nD τ) m4 fullShare (k0_pay2 X0)) -∗ K ⟨⟩))
      ⊢ wp frame (wpE (defs₀ (F := F)) 𝒱₀ c none) E (cc0__pre_body m0 h0 m1 h1 m2 h2 m3 h3 m4 h4) K := by
  rw [owns_of_whole (c : Thread nD τ) m0 h0, owns_of_whole (c : Thread nD τ) m1 h1, owns_of_whole (c : Thread nD τ) m2 h2,
    owns_of_whole (c : Thread nD τ) m3 h3, owns_of_whole (c : Thread nD τ) m4 h4,
    owns_of_whole (c : Thread nD τ) m3 h3 _ (k0_pay1 X1 X0 X2), owns_of_whole (c : Thread nD τ) m4 h4 _ (k0_pay2 X0)]
  simp only [cc0__pre_body_eq_skeleton]; unfold cc0__pre_body_skel
  simp only [Prog.lift, Prog.bind_op, Prog.bind_ret]
  iintro ⟨⟨⟨%f0, %hf0, H0⟩, ⟨%f1, %hf1, H1⟩, ⟨%f2, %hf2, H2⟩, ⟨%f3, %hf3, H3⟩, ⟨%f4, %hf4, H4⟩⟩, Hk⟩
  sl_steps
  iapply Hk
  isplitl [H0]
  · iexists f0; isplitr; · ipureintro; exact hf0
    iexact H0
  isplitl [H1]
  · iexists f1; isplitr; · ipureintro; exact hf1
    iexact H1
  isplitl [H2]
  · iexists f2; isplitr; · ipureintro; exact hf2
    iexact H2
  isplitl [H3]
  · iexists _; isplitr [H3]; swap; · iexact H3
    ipureintro
    rw [store_whole m3 h3 zero_offset, load_whole m0 h0 zero_offset, load_whole m1 h1 zero_offset, load_whole m2 h2 zero_offset, hf0, hf1, hf2]
  · iexists _; isplitr [H4]; swap; · iexact H4
    ipureintro
    rw [store_whole m4 h4 zero_offset, load_whole m0 h0 zero_offset, hf0]

/-- The second kernel's body, at any coordinates: it does not read them. -/
theorem body1 (c : Dev nD) (E : Set ℕ) (i : grid1.Coords)
    (m0 : Memref sig .tc .vmem S1024x4096 .f32) (h0 : m0.IsWhole) (m1 : Memref sig .tc .vmem S4096x1024 .bf16) (h1 : m1.IsWhole)
    (m2 : Memref sig .tc .vmem S8x1024 .f32) (h2 : m2.IsWhole) (m3 : Memref sig .tc .vmem S1024x1 .f32) (h3 : m3.IsWhole)
    (m4 : Memref sig .tc .vmem S1024x1024 .f32) (h4 : m4.IsWhole)
    (X0 : S1024x4096.Idx → Elt F .f32) (X1 : S4096x1024.Idx → Elt F .bf16) (X2 : S8x1024.Idx → Elt F .f32)
    (X3 : S1024x1.Idx → Elt F .f32) (X4 : S1024x1024.Idx → Elt F .f32) (K : PUnit → sProp 𝕄) :
    iprop((owns (c : Thread nD τ) m0 fullShare X0 ∗ owns (c : Thread nD τ) m1 fullShare X1 ∗ owns (c : Thread nD τ) m2 fullShare X2
            ∗ owns (c : Thread nD τ) m3 fullShare X3 ∗ owns (c : Thread nD τ) m4 fullShare X4)
          ∗ (iprop(owns (c : Thread nD τ) m0 fullShare X0 ∗ owns (c : Thread nD τ) m1 fullShare X1 ∗ owns (c : Thread nD τ) m2 fullShare X2
            ∗ owns (c : Thread nD τ) m3 fullShare X3 ∗ owns (c : Thread nD τ) m4 fullShare (k1_pay1 X0 X1 X3 (topRow X2))) -∗ K ⟨⟩))
      ⊢ wp frame (wpE (defs₀ (F := F)) 𝒱₀ c none) E (cc1__main_body i m0 h0 m1 h1 m2 h2 m3 h3 m4 h4) K := by
  rw [owns_of_whole (c : Thread nD τ) m0 h0, owns_of_whole (c : Thread nD τ) m1 h1, owns_of_whole (c : Thread nD τ) m2 h2,
    owns_of_whole (c : Thread nD τ) m3 h3, owns_of_whole (c : Thread nD τ) m4 h4,
    owns_of_whole (c : Thread nD τ) m4 h4 _ (k1_pay1 X0 X1 X3 (topRow X2))]
  simp only [cc1__main_body_eq_skeleton]; unfold cc1__main_body_skel
  simp only [Prog.lift, Prog.bind_op, Prog.bind_ret]
  iintro ⟨⟨⟨%f0, %hf0, H0⟩, ⟨%f1, %hf1, H1⟩, ⟨%f2, %hf2, H2⟩, ⟨%f3, %hf3, H3⟩, ⟨%f4, %hf4, H4⟩⟩, Hk⟩
  sl_steps
  iapply Hk
  isplitl [H0]
  · iexists f0; isplitr; · ipureintro; exact hf0
    iexact H0
  isplitl [H1]
  · iexists f1; isplitr; · ipureintro; exact hf1
    iexact H1
  isplitl [H2]
  · iexists f2; isplitr; · ipureintro; exact hf2
    iexact H2
  isplitl [H3]
  · iexists f3; isplitr; · ipureintro; exact hf3
    iexact H3
  · iexists _; isplitr [H4]; swap; · iexact H4
    ipureintro
    rw [store_whole m4 h4 zero_offset, load_whole m0 h0 zero_offset, load_whole m1 h1 zero_offset, load_whole m3 h3 zero_offset, hf0, hf1, hf3]
    have hrow : m2.view.readAt (Elt F) (Rect.unit (s := S8x1024) ![0, 0] S1x1024.size inb_S8x1024_S1x1024_0_0).toLoadRect f2 = topRow X2 := by
      rw [← hf2]; rfl
    rw [hrow]

end Cert.KernelIdealRun

end
-- ==== Proof.KernelIdealRegions.lean ====
/-
  The two kernel regions as relational proof data, and their bodies' obligations.

  Region 0 leaves its two results at NAMED contents: the reciprocal temperatures (`scale`) and the transposed rounded
  input (`xT`). Region 1's windows overhang the arrays at the last grid point, so the rows of a staging buffer past an
  array's end hold contents nothing names; its result is therefore described by a relation (`outBlock`): the product block
  of SOME contents that agree with the fetched blocks wherever the fetch moved anything.
-/
module

public import proofs.«01_k».proof.Proof.KernelIdealBody

@[expose] public section

noncomputable section

namespace Cert.KernelIdealRun

open Cert.KernelIdeal Cert.KernelIdeal.Gen

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (RDat)

variable {F : FTy → Type} [FloatOps F]

local notation "𝕄" => MT nD τ sig Unit (Elt F) ℕ (UR sig nD τ) ℕ

variable (m : (ℓ : Loc nD τ sig) → Buf (Elt F) ℓ)

/-- The reciprocal temperatures region 0 leaves, in eight equal rows. -/
def scale (c : Dev nD) : S8x1024.Idx → Elt F .f32 := k0_pay1 (V1 m c main_v1) (V1 m c main_arg0) (V1 m c main_v4)

/-- The transposed input region 0 leaves, rounded to the narrower format. -/
def xT (c : Dev nD) : S4096x1024.Idx → Elt F .bf16 := k0_pay2 (V1 m c main_arg0)

/-- The buffers between the two regions. -/
abbrev mid (c : Dev nD) : Valuation τ sig (Elt F) := Function.update (Function.update (V1 m c) main_v7_0 (scale m c)) main_v7_1 (xT m c)

/-- A buffer that region 0 does not write is as it was before the region. -/
theorem mid_of (c : Dev nD) (r : Ref sig .tc) (h : r ∉ ([main_v7_0, main_v7_1] : List (Ref sig .tc))) : mid m c r = V1 m c r := by
  simp only [mid, Function.update_of_ne (StableHlo.devRef_ne_of_ne (List.ne_of_not_mem_cons h) : (Proc.devRef .tc r : DevRef τ sig) ≠ Proc.devRef .tc main_v7_0),
    Function.update_of_ne (StableHlo.devRef_ne_of_ne (List.ne_of_not_mem_cons (List.not_mem_of_not_mem_cons h)) : (Proc.devRef .tc r : DevRef τ sig) ≠ Proc.devRef .tc main_v7_1)]

/-- Between the regions the one result of region 0 holds the transposed input, -/
theorem mid_xT (c : Dev nD) : mid m c main_v7_1 = xT m c := Function.update_self _ _ _

/-- and the other the reciprocal temperatures. -/
theorem mid_scale (c : Dev nD) : mid m c main_v7_0 = scale m c :=
  (Function.update_of_ne (StableHlo.devRef_ne_of_ne (by decide) : (Proc.devRef .tc main_v7_0 : DevRef τ sig) ≠ Proc.devRef .tc main_v7_1) _ _).trans
    (Function.update_self _ _ _)

/-- Region 0's data: the inputs' buffers are left as found, the results' hold `scale` and `xT`. -/
def rd0 (c : Dev nD) : RDat τ (Elt F) Unit ℕ (UR sig nD τ) ℕ cfg0 c where
  A w := V1 m c (Pipeline.arrRef spec0 w)
  after w _ Y X := match w, Y, X with
    | 0, Y, X => X = Y
    | 1, Y, X => X = Y
    | 2, Y, X => X = Y
    | 3, _, X => X = scale m c
    | 4, _, X => X = xT m c
    | ⟨_ + 5, h⟩, _, _ => absurd h (Nat.not_lt.2 (Nat.le_add_left _ _))
  Φ _ := Pipeline.scopedRest (Pipeline.pin (pcfgs (F := F)) adm 0).spec c
  q _ := fullShare
  owed _ := 0

/-- What region 1's body may leave in the result's buffer at point `t`: the product block of staging contents that hold
    the weights' and the biases' fetched blocks, and anything past the arrays' ends. -/
def outBlock (c : Dev nD) (t : Fin cfg1.N) (X : S1024x1024.Idx → Elt F .f32) : Prop :=
  ∃ (d0 : S1024x4096.Idx → Elt F .f32) (d3 : S1024x1.Idx → Elt F .f32),
    X = k1_pay1 (win1_0.fill (grid1.coords t) d0 ((win1_0.blk t).view.read (Elt F) (mid m c main_v0))) (xT m c)
      (win1_3.fill (grid1.coords t) d3 ((win1_3.blk t).view.read (Elt F) (mid m c main_v6))) (topRow (scale m c))

/-- Region 1's data: the inputs' buffers are left as found, the result's holds a product block. -/
def rd1 (c : Dev nD) : RDat τ (Elt F) Unit ℕ (UR sig nD τ) ℕ cfg1 c where
  A w := mid m c (Pipeline.arrRef spec1 w)
  after w t Y X := match w, Y, X with
    | 0, Y, X => X = Y
    | 1, Y, X => X = Y
    | 2, Y, X => X = Y
    | 3, Y, X => X = Y
    | 4, _, X => outBlock m c t X
    | ⟨_ + 5, h⟩, _, _ => absurd h (Nat.not_lt.2 (Nat.le_add_left _ _))
  Φ _ := Pipeline.scopedRest (Pipeline.pin (pcfgs (F := F)) adm 1).spec c
  q _ := fullShare
  owed _ := 0

/-- The two regions' data. -/
def rdats : (p : Fin 2) → (c : Dev nD) → RDat τ (Elt F) Unit ℕ (UR sig nD τ) ℕ (cfgs p) c
  | 0 => rd0 m
  | 1 => rd1 m

/-! ## What the bodies find -/

/-- Region 0's body finds the inputs in its first buffer, -/
theorem found0_0 (c : Dev nD) (t : Fin cfg0.N) (Y) (h : (rd0 m c).Finds 0 t Y) : Y = V1 m c main_arg0 := by
  obtain ⟨d, rfl⟩ := ((rd0 m c).finds_of_fetch (fetch0_0 t) Y).mp h
  funext j
  refine congrArg (V1 m c main_arg0) (funext fun a => Fin.ext ?_)
  exact Pipeline.Window.rect_emb_val_of_index_zero win0_0 t a rfl _

/-- the temperature's weights in its second, -/
theorem found0_1 (c : Dev nD) (t : Fin cfg0.N) (Y) (h : (rd0 m c).Finds 1 t Y) : Y = V1 m c main_v1 := by
  obtain ⟨d, rfl⟩ := ((rd0 m c).finds_of_fetch (fetch0_1 t) Y).mp h
  funext j
  refine congrArg (V1 m c main_v1) (funext fun a => Fin.ext ?_)
  exact Pipeline.Window.rect_emb_val_of_index_zero win0_1 t a rfl _

/-- and the temperature's bias in its third. -/
theorem found0_2 (c : Dev nD) (t : Fin cfg0.N) (Y) (h : (rd0 m c).Finds 2 t Y) : Y = V1 m c main_v4 := by
  obtain ⟨d, rfl⟩ := ((rd0 m c).finds_of_fetch (fetch0_2 t) Y).mp h
  funext j
  refine congrArg (V1 m c main_v4) (funext fun a => Fin.ext ?_)
  exact Pipeline.Window.rect_emb_val_of_index_zero win0_2 t a rfl _

/-- Region 1's body finds the whole transposed input at every grid point, -/
theorem found1_1 (c : Dev nD) (t : Fin cfg1.N) (Y) (h : (rd1 m c).Finds 1 t Y) : Y = xT m c := by
  obtain ⟨d, rfl⟩ := (rd1 m c).finds_in_eq_fetched 1 rfl (fun _ _ _ => rfl) (fun _ _ _ h => h) t Y h
  funext j
  refine Eq.trans ?_ (congrFun (mid_xT m c) j)
  refine congrArg (mid m c main_v7_1) (funext fun a => Fin.ext ?_)
  exact Pipeline.Window.rect_emb_val_of_index_zero win1_1 t a (by fin_cases a <;> rfl) _

/-- and all the reciprocal temperatures. -/
theorem found1_2 (c : Dev nD) (t : Fin cfg1.N) (Y) (h : (rd1 m c).Finds 2 t Y) : Y = scale m c := by
  obtain ⟨d, rfl⟩ := (rd1 m c).finds_in_eq_fetched 2 rfl (fun _ _ _ => rfl) (fun _ _ _ h => h) t Y h
  funext j
  refine Eq.trans ?_ (congrFun (mid_scale m c) j)
  refine congrArg (mid m c main_v7_0) (funext fun a => Fin.ext ?_)
  exact Pipeline.Window.rect_emb_val_of_index_zero win1_2 t a (by fin_cases a <;> rfl) _

/-! ## The bodies' obligations -/

/-- Region 0's body keeps to the region's data. -/
theorem obligation0 (c : Dev nD) : (rd0 m c).BodyObligation (defs₀ (F := F)) 𝒱₀ () Set.univ := fun t Y hY => by
  rw [bigSep_W0, bigSep_W0]
  rw [show (rd0 m c).Φ t.succ = (rd0 m c).Φ t.castSucc from rfl,
    show (rd0 m c).owesAt () t.succ = (rd0 m c).owesAt () t.castSucc from rfl]
  iintro ⟨HΦ, Ho, H0, H1, H2, H3, H4⟩
  iapply (body0 (F := F) c Set.univ (st0_0 t) (hstage0_0 0) (st0_1 t) (hstage0_1 0) (st0_2 t) (hstage0_2 0) (st0_3 t) (hstage0_3 0)
    (st0_4 t) (hstage0_4 0) (Y 0) (Y 1) (Y 2) (Y 3) (Y 4) _)
  isplitl [H0 H1 H2 H3 H4]
  · isplitl [H0]; · iexact H0
    isplitl [H1]; · iexact H1
    isplitl [H2]; · iexact H2
    isplitl [H3]; · iexact H3
    iexact H4
  iintro ⟨H0, H1, H2, H3, H4⟩
  isplitl [HΦ]; · iexact HΦ
  isplitl [Ho]; · iexact Ho
  isplitl [H0]
  · iexists (Y 0); isplitr; · ipureintro; rfl
    iexact H0
  isplitl [H1]
  · iexists (Y 1); isplitr; · ipureintro; rfl
    iexact H1
  isplitl [H2]
  · iexists (Y 2); isplitr; · ipureintro; rfl
    iexact H2
  isplitl [H3]
  · iexists (k0_pay1 (Y 1) (Y 0) (Y 2)); isplitr
    · ipureintro
      show k0_pay1 (Y 1) (Y 0) (Y 2) = scale m c
      rw [found0_0 m c t _ (hY 0), found0_1 m c t _ (hY 1), found0_2 m c t _ (hY 2)]; rfl
    iexact H3
  · iexists (k0_pay2 (Y 0)); isplitr
    · ipureintro
      show k0_pay2 (Y 0) = xT m c
      rw [found0_0 m c t _ (hY 0)]; rfl
    iexact H4

/-- Region 1's body keeps to the region's data at every grid point. -/
theorem obligation1 (c : Dev nD) : (rd1 m c).BodyObligation (defs₀ (F := F)) 𝒱₀ () Set.univ := fun t Y hY => by
  rw [bigSep_W1, bigSep_W1]
  rw [show (rd1 m c).Φ t.succ = (rd1 m c).Φ t.castSucc from rfl,
    show (rd1 m c).owesAt () t.succ = (rd1 m c).owesAt () t.castSucc from rfl]
  iintro ⟨HΦ, Ho, H0, H1, H2, H3, H4⟩
  iapply (body1 (F := F) c Set.univ (grid1.coords t) (st1_0 t) (hstage1_0 _) (st1_1 t) (hstage1_1 _) (st1_2 t) (hstage1_2 _) (st1_3 t) (hstage1_3 _)
    (st1_4 t) (hstage1_4 _) (Y 0) (Y 1) (Y 2) (Y 3) (Y 4) _)
  isplitl [H0 H1 H2 H3 H4]
  · isplitl [H0]; · iexact H0
    isplitl [H1]; · iexact H1
    isplitl [H2]; · iexact H2
    isplitl [H3]; · iexact H3
    iexact H4
  iintro ⟨H0, H1, H2, H3, H4⟩
  isplitl [HΦ]; · iexact HΦ
  isplitl [Ho]; · iexact Ho
  isplitl [H0]
  · iexists (Y 0); isplitr; · ipureintro; rfl
    iexact H0
  isplitl [H1]
  · iexists (Y 1); isplitr; · ipureintro; rfl
    iexact H1
  isplitl [H2]
  · iexists (Y 2); isplitr; · ipureintro; rfl
    iexact H2
  isplitl [H3]
  · iexists (Y 3); isplitr; · ipureintro; rfl
    iexact H3
  · iexists (k1_pay1 (Y 0) (Y 1) (Y 3) (topRow (Y 2))); isplitr
    · ipureintro
      obtain ⟨d0, h0⟩ := ((rd1 m c).finds_of_fetch (fetch1_0 t) (Y 0)).mp (hY 0)
      obtain ⟨d3, h3⟩ := ((rd1 m c).finds_of_fetch (fetch1_3 t) (Y 3)).mp (hY 3)
      refine ⟨d0, d3, ?_⟩
      rw [found1_1 m c t _ (hY 1), found1_2 m c t _ (hY 2), h0, h3]; rfl
    iexact H4

end Cert.KernelIdealRun

end
-- ==== Proof.KernelIdealRun.lean ====
/-
  The whole program's run, at any float values: it terminates from any memory with zero counters, leaves its arguments
  as they were and every counter at zero, and its result is the transpose of contents the second region may leave.
-/
module

public import proofs.«01_k».proof.Proof.KernelIdealRegions

@[expose] public section

noncomputable section

namespace Cert.KernelIdealRun

open Cert.KernelIdeal Cert.KernelIdeal.Gen

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (RDat)

variable {F : FTy → Type} [FloatOps F]

local notation "𝕄" => MT nD τ sig Unit (Elt F) ℕ (UR sig nD τ) ℕ

/-- The pipelines' resource algebra is the certificate's. -/
abbrev EP : Emb (UR sig nD τ) (MT nD τ sig Unit (Elt F) ℕ (UR sig nD τ) ℕ) := emb₁

/-- No pair is levelled: no body waits. -/
abbrev L : GSem nD τ sig → Finset Unit := fun _ => ∅
abbrev lv : GSem nD τ sig → Unit → ℕ := fun _ _ => 0

/-- The launch element: every staging cell at round 0, and the transfers' duty tokens. -/
def u₀ : UR sig nD τ := initOf (Pipeline.cells cfgs cellOf_inj) (Pipeline.launchToks cfgs cellOf_inj)

variable (m : (ℓ : Loc nD τ sig) → Buf (Elt F) ℓ)

/-! ## The regions' records -/

/-- Region 0's body holds nothing but its scoped buffers. -/
theorem invariant0 (c : Dev nD) (t : Fin ((cfgs 0).N + 1)) :
    (rdats m 0 c).Φ t = (Pipeline.scopedRest (Pipeline.pin (pcfgs (F := F)) adm 0).spec c : sProp 𝕄) := by
  show (rd0 m c).Φ t = _
  unfold rd0
  with_reducible rfl

/-- Region 0's record: entered after the first host stretch. -/
def reg0 : RDat.RegionSeg (pcfgs (F := F)) adm (rdats m) () defs₀ 𝒱₀ L lv 0 :=
  HeldRegion.regionOfHeld (pcfgs (F := F)) adm (rdats m) () defs₀ 𝒱₀ L lv 0 launch0.toP rfl (obligation0 m)
    (fun _ _ => rfl) (fun _ => rfl) (fun _ _ => rfl) (invariant0 m) (V1 m) (fun _ _ => rfl)

/-- Region 1's body holds nothing but its scoped buffers. -/
theorem invariant1 (c : Dev nD) (t : Fin ((cfgs 1).N + 1)) :
    (rdats m 1 c).Φ t = (Pipeline.scopedRest (Pipeline.pin (pcfgs (F := F)) adm 1).spec c : sProp 𝕄) := by
  show (rd1 m c).Φ t = _
  unfold rd1
  with_reducible rfl

/-- Region 1's record: entered with region 0's results named. -/
def reg1 : RDat.RegionSeg (pcfgs (F := F)) adm (rdats m) () defs₀ 𝒱₀ L lv 1 :=
  HeldRegion.regionOfHeld (pcfgs (F := F)) adm (rdats m) () defs₀ 𝒱₀ L lv 1 launch1.toP rfl (obligation1 m)
    (fun _ _ => rfl) (fun _ => rfl) (fun _ _ => rfl) (invariant1 m) (mid m) (fun _ _ => rfl)

/-- What region 1 leaves: its windows' arrays at contents its relation allows, every other buffer as it was. -/
abbrev Done (c : Dev nD) (V : Valuation τ sig (Elt F)) : Prop := HeldRegion.Left (pcfgs (F := F)) adm (rdats m) 1 (mid m) c V

/-! ## After region 0 the buffers are known -/

/-- Region 0 leaves the reciprocal temperatures in its first result, -/
theorem left0_scale (c : Dev nD) (G) (h : (rd0 m c).ArrAt 3 cfg0.N G) : G = scale m c := by
  obtain ⟨X, ⟨Y, -, hX⟩, hG⟩ := h.emb_eq_of_wholeAt (t₀ := t0_0) (by decide +kernel)
  obtain rfl : X = scale m c := hX
  exact funext fun j => hG j

/-- and the transposed input in its second. -/
theorem left0_xT (c : Dev nD) (G) (h : (rd0 m c).ArrAt 4 cfg0.N G) : G = xT m c := by
  obtain ⟨X, ⟨Y, -, hX⟩, hG⟩ := h.emb_eq_of_wholeAt (t₀ := t0_0) (by decide +kernel)
  obtain rfl : X = xT m c := hX
  exact funext fun j => hG j

set_option backward.isDefEq.respectTransparency.types false in
/-- Every buffer after region 0 is at `mid`. -/
theorem left0 (c : Dev nD) (V : Valuation τ sig (Elt F)) (h : HeldRegion.Left (pcfgs (F := F)) adm (rdats m) 0 (V1 m) c V) (b : DevRef τ sig) :
    V b = mid m c b := by
  by_cases hb : b ∈ Pipeline.arrRefs (τ := τ) spec0
  · obtain ⟨r, hr, rfl⟩ := Finset.mem_map.mp hb
    obtain ⟨w, -, rfl⟩ := Finset.mem_image.mp hr
    have hw := h.1 w
    fin_cases w
    · refine (congrFun ((rd0 m c).ArrAt_in 0 rfl cfg0.N) _).mp hw |>.trans (mid_of m c main_arg0 (by decide)).symm
    · refine (congrFun ((rd0 m c).ArrAt_in 1 rfl cfg0.N) _).mp hw |>.trans (mid_of m c main_v1 (by decide)).symm
    · refine (congrFun ((rd0 m c).ArrAt_in 2 rfl cfg0.N) _).mp hw |>.trans (mid_of m c main_v4 (by decide)).symm
    · exact (left0_scale m c _ hw).trans (mid_scale m c).symm
    · exact (left0_xT m c _ hw).trans (mid_xT m c).symm
  · rw [h.2 b hb]
    have h3 : b ≠ Proc.devRef .tc main_v7_0 := fun e => hb (e ▸ Finset.mem_map.mpr ⟨main_v7_0, Finset.mem_image.mpr ⟨3, Finset.mem_univ _, rfl⟩, rfl⟩)
    have h4 : b ≠ Proc.devRef .tc main_v7_1 := fun e => hb (e ▸ Finset.mem_map.mpr ⟨main_v7_1, Finset.mem_image.mpr ⟨4, Finset.mem_univ _, rfl⟩, rfl⟩)
    exact ((Function.update_of_ne h4 _ _).trans (Function.update_of_ne h3 _ _)).symm

set_option backward.isDefEq.respectTransparency.types false in
/-- What region 0 leaves is what region 1 is entered with. -/
theorem post0 (c : Dev nD) : (reg0 m).post c ⊢ (reg1 m).pre c := by
  have h : iprop(∃ V' : Valuation τ sig (Elt F), ⌜HeldRegion.Left (pcfgs (F := F)) adm (rdats m) 0 (V1 m) c V'⌝
      ∗ StableHlo.held (c.tc : Thread nD τ) (Pipeline.ucRefs τ sig) V' ∗ HeldRegion.Clear c)
    ⊢ (iprop(StableHlo.held (c.tc : Thread nD τ) (Pipeline.ucRefs τ sig) (mid m c) ∗ HeldRegion.Clear c) : sProp 𝕄) := by
    iintro ⟨%V', %h, Hh, HO⟩
    isplitl [Hh]
    · rw [← StableHlo.held_congr _ (V := V') (V' := mid m c) fun b _ => left0 m c V' h b]
      iexact Hh
    iexact HO
  exact h

/-! ## The run -/

/-- The program's items. -/
abbrev items (_ : Dev nD) : List (RDat.Seg (pcfgs (F := F)) adm (rdats m) () defs₀ 𝒱₀ L lv) :=
  [.host (seg0 m 𝒱₀ L lv (fun _ => HeldRegion.Clear)), .region (reg0 m), .region (reg1 m),
    .host (HeldRegion.hostAfter (pcfgs (F := F)) defs₀ 𝒱₀ L lv hostOps2
      (fun op h => Pipeline.sub_ucRefs op ((List.forall_iff_forall_mem.mp hostOps2_sub) op h))
      (fun op h => (List.forall_iff_forall_mem.mp hostOps2_fresh) op h) (Done m))]

/-- Core `c`'s memory after the run: the last host stretch's result on buffers region 1 may leave. -/
def Final (c : Dev nD) (s : MemSt nD τ sig (Elt F)) : Prop :=
  ∃ V : Valuation τ sig (Elt F), Done m c V ∧ ∀ b ∈ Pipeline.ucRefs τ sig, s.mem (c, b) = StableHlo.after hostOps2 V b

set_option backward.isDefEq.respectTransparency.types false in
/-- From any memory with zero counters every weakly fair execution terminates, in a state `Final` describes on every core,
    with every counter at zero. -/
theorem run_main (ρ : Dev nD → PrngReg) :
    θ_run defs (onTc (τ := τ) (main (F := F))) ⟨m, fun _ => 0, ρ⟩ (fun r => (∀ c, Final m c r.2) ∧ r.2.sem = fun _ => 0) := by
  refine RDat.θ_run_regions_kit_dev_sems (pcfgs (F := F)) adm (rdats m) () cellOf_inj EP defs₀ 𝒱₀ L lv m ρ main (items m)
    (fun c Q => by
      rewrite [main_chain c, RDat.Seg.run_eq_chain,
        show (items m c).map RDat.Seg.prog = [
          StableHlo.seq hostOps0,
          Prog.lift (.customCall (Pipeline.entry 0) ()),
          Prog.lift (.customCall (Pipeline.entry 1) ()),
          StableHlo.seq hostOps2 ] from rfl]
      dsimp (config := { failIfUnchanged := false }) only
      exact .rfl)
    (fun c => by simp only [items, RDat.Seg.pipes_host, RDat.Seg.pipes_region, RDat.Seg.pipes_nil]; decide) (O₀ := 0) (hL := fun _ _ => rfl)
    (G := fun _ => iprop(emp)) (u₀ := u₀)
    (hu₀ := by
      rw [show (ownU u₀ : sProp 𝕄) = BI.own (EP (initOf (Pipeline.cells (Pipeline.pin (pcfgs (F := F)) adm) cellOf_inj)
        (Pipeline.launchToks (Pipeline.pin (pcfgs (F := F)) adm) cellOf_inj))) from rfl]
      iintro Hu
      imodintro
      isplitl [Hu]; · iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (V0 m c) ∗ HeldRegion.Clear c))
    (Tₙ := fun c => iprop(∃ V : Valuation τ sig (Elt F), ⌜Done m c V⌝ ∗ StableHlo.held (c.tc : Thread nD τ) (Pipeline.ucRefs τ sig) (StableHlo.after hostOps2 V)))
    (hch := fun c => ⟨.rfl, .rfl, post0 m c, .rfl, .rfl⟩)
    (hinit := ?_) (QY := Final m)
    (hfin := fun c s' => ?_) (hQ := fun _ h hz => ⟨h, funext fun g => hz g (.inr (regions_no_unscoped g.2))⟩)
  · refine Pipeline.initEach L lv fun c => ?_
    rw [← Pipeline.unscopedBufs_held (Ix := Unit) (Name := ℕ) (U := UR sig nD τ) (Lvl := ℕ) c (V0 m c)]
    iintro ⟨⟨Hh, -, HO, -, -, -⟩, -⟩
    imodintro
    isplitl [Hh]; · iexact Hh
    iexists ∅; iexact HO
  · unfold StableHlo.held
    iintro ⟨⟨%V, %hV, Hh⟩, HSI⟩
    ihave Hr := (pointsTo_read_all (Pipeline.ucRefs τ sig) (fun b => ((c : Thread nD τ).1, b)) (StableHlo.after hostOps2 V) s') $$ [Hh HSI]
    · isplitl [Hh] <;> iassumption
    icases Hr with ⟨%h, HSI⟩
    imodintro
    isplitr
    · ipureintro; exact ⟨V, hV, h⟩
    iexact HSI

/-! ## What the final memory holds -/

/-- A buffer of no scope is among those whose contents the run keeps track of. -/
theorem mem_ucRefs (r : Ref sig .tc) (h : (Proc.devRef (τ := τ) .tc r : DevRef τ sig).isScoped = false := by decide) : (Proc.devRef (τ := τ) .tc r : DevRef τ sig) ∈ Pipeline.ucRefs τ sig :=
  Finset.mem_filter.mpr ⟨StableHlo.devRef_mem_tcRefs r, by simpa using h⟩

/-- A buffer that no host operation and no region writes ends as it began. -/
theorem final_kept (c : Dev nD) (s : MemSt nD τ sig (Elt F)) (h : Final m c s) (r : Ref sig .tc)
    (h₀ : r ∉ hostOps0_W) (h₁ : r ∉ ([main_v7_0, main_v7_1] : List (Ref sig .tc)))
    (h₂ : (Proc.devRef .tc r : DevRef τ sig) ∉ Pipeline.arrRefs (τ := τ) spec1) (h₃ : r ∉ hostOps2_W)
    (hs : (Proc.devRef (τ := τ) .tc r : DevRef τ sig).isScoped = false) :
    s.mem ((c.tc : Thread nD τ).loc r) = m ((c.tc : Thread nD τ).loc r) := by
  obtain ⟨V, hV, hb⟩ := h
  refine (hb _ (mem_ucRefs r hs)).trans ?_
  rw [StableHlo.after_of_writes_sub hostOps2 V hostOps2_writes h₃]
  exact (hV.2 _ h₂).trans ((mid_of m c r h₁).trans (V1_of m c r h₀))

/-- The three arguments end as they began. -/
theorem final_args (c : Dev nD) (s : MemSt nD τ sig (Elt F)) (h : Final m c s) :
    s.mem ((c.tc : Thread nD τ).loc main_arg0) = m ((c.tc : Thread nD τ).loc main_arg0)
      ∧ s.mem ((c.tc : Thread nD τ).loc main_arg1) = m ((c.tc : Thread nD τ).loc main_arg1)
      ∧ s.mem ((c.tc : Thread nD τ).loc main_arg2) = m ((c.tc : Thread nD τ).loc main_arg2) :=
  ⟨final_kept m c s h main_arg0 (by decide) (by decide) (by decide) (by decide) (by decide),
    final_kept m c s h main_arg1 (by decide) (by decide) (by decide) (by decide) (by decide),
    final_kept m c s h main_arg2 (by decide) (by decide) (by decide) (by decide) (by decide)⟩

/-- The result is the transpose of contents that region 1 may leave in its result array. -/
theorem final_result (c : Dev nD) (s : MemSt nD τ sig (Elt F)) (h : Final m c s) :
    ∃ G : S100000x1024.Idx → Elt F .f32, (rd1 m c).ArrAt 4 cfg1.N G
      ∧ s.mem ((c.tc : Thread nD τ).loc main_v9) = transpose S1024x100000 [1, 0] G transposes_S100000x1024_S1024x100000_1_0 := by
  obtain ⟨V, hV, hb⟩ := h
  refine ⟨V main_v8, hV.1 4, (hb _ (mem_ucRefs main_v9)).trans ?_⟩
  after_results

/-- The run with the arguments' contents spelled out. -/
theorem frame (ρ : Dev nD → PrngReg) :
    θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) ∧ r.2.sem = fun _ => 0) :=
  (θ_run defs _ _).mono (fun r h => ⟨fun c => final_args m c r.2 (h.1 c), h.2⟩) (run_main m ρ)

end Cert.KernelIdealRun

end
-- ==== Proof.ReferenceRun.lean ====
/-
  The reference's run, with its counters: it declares no semaphore, so every counter ends at zero.
  And the side conditions that the precondition's operations take.
-/
module

public import proofs.«01_k».proof.Defs
public import proofs.«01_k».proof.Proof.KernelRun
public import proofs.«01_k».proof.Proof.Gen.ReferenceIdeal.Run
public import Idealize.ShloMosaic.Lib.Claim
public import Idealize.ShloMosaic.Lib.Quiescent

@[expose] public section

noncomputable section

namespace Cert.ReferenceRun

open Cert.ReferenceIdeal Cert.ReferenceIdeal.Gen
open Idealize.ShloMosaic Idealize.ShloMosaic.TcCoe Idealize.SL.Sem

variable {F : FTy → Type} [FloatOps F]

/-- The reference terminates from any memory with zero counters, its arguments unchanged and every counter zero. -/
theorem frame (m : (ℓ : Loc nD τ sig) → Buf (Elt F) ℓ) (ρ : Dev nD → PrngReg) :
    θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) ∧ r.2.sem = fun _ => 0) :=
  (θ_run defs _ _).mono (fun r h => ⟨fun c => (h c).2, sem_eq_zero_of_no_sems rfl r.2⟩) (Value.run m ρ)

end Cert.ReferenceRun

namespace Cert.PreconditionFacts

open Idealize.ShloMosaic Cert.Pre_temperature_logit_above_minus_infinity

/-- The precondition's operations are applied at shapes that fit. -/
instance facts : Cert.Pre_temperature_logit_above_minus_infinity.Facts where
  slices_S4096x100001_S4096x1_0_100000 := by decide
  slices_S100001_S1_100000 := by decide
  bcast_S1_S1x1_1 := by decide
  bcast_S1x1_S1024x1_0_1 := by decide
  bcast_S_S1024x1 := by decide
  dot_S1024x4096_S4096x1_S1024x1_1_0_0_1_n_n_wf := by decide

end Cert.PreconditionFacts

end
-- ==== Proof.Logits.lean ====
/-
  The two kernels' stored values, the reference's result and the precondition, read element by element over the
  extended reals; and the equation between a product with a reciprocal temperature and a quotient by the temperature.
-/
module

public import proofs.«01_k».proof.Proof.ReferenceRun
public import Idealize.ShloMosaic.Lib.Pointwise

@[expose] public section

noncomputable section

namespace Cert.Logits

open Idealize.ShloMosaic

/-- Column `j` of the affine map at row `i`: the product of row `i` of `x` with column `j` of `w`, plus the bias. -/
def logit (x : (⟨2, ![1024, 4096]⟩ : Shape).Idx → EReal) (w : (⟨2, ![4096, 100001]⟩ : Shape).Idx → EReal)
    (b : (⟨1, ![100001]⟩ : Shape).Idx → EReal) (i : Fin 1024) (j : Fin 100001) : EReal :=
  ∑ k : Fin 4096, x (ix2 i k) * w (ix2 k j) + b (ix1 j)

/-! ## The kernels' stored values -/

section Kernel

open Cert.KernelIdeal Cert.KernelIdeal.Gen

/-- What the second kernel stores: the product of a row of weights with a column of the transposed input, plus the row's
    bias, times the column's reciprocal temperature. -/
theorem scaled_block (v0 : Vec Ideal S1024x4096 .f32) (v2 : Vec Ideal S4096x1024 .bf16) (v5 : Vec Ideal S1024x1 .f32)
    (v9 : Vec Ideal S1x1024 .f32) (r i : Fin 1024) :
    k1_pay1 v0 v2 v5 v9 (ix2 r i) = (∑ k : Fin 4096, v0 (ix2 r k) * v2 (ix2 k i) + v5 (ix2 r 0)) * v9 (ix2 0 i) := by
  pointwise [k1_pay1]

/-- What the first kernel stores in each of eight rows: the reciprocal of the logistic function of the temperature logit. -/
theorem reciprocal_temperature (v0 : Vec Ideal S1x4096 .f32) (v2 : Vec Ideal S1024x4096 .f32) (v4 : Vec Ideal S1x1 .f32)
    (a : Fin 8) (i : Fin 1024) :
    k0_pay1 v0 v2 v4 (ix2 a i)
      = Ideal.div 1 (Ideal.logistic (∑ k : Fin 4096, v0 (ix2 0 k) * v2 (ix2 i k) + v4 (ix2 0 0))) := by
  pointwise [k0_pay1]

/-- The first kernel's other result is the transposed input: over the extended reals the cast changes nothing. -/
theorem transposed_input (v14 : Vec Ideal S1024x4096 .f32) (k : Fin 4096) (i : Fin 1024) :
    k0_pay2 v14 (ix2 k i) = v14 (ix2 i k) := by
  pointwise [k0_pay2]

end Kernel

/-! ## The reference's result -/

section Reference

open Cert.ReferenceIdeal Cert.ReferenceIdeal.Gen

/-- The affine map of the reference, a column for every class and a last one for the temperature. -/
def affine (x : FVec Ideal S1024x4096 .f32) (w : FVec Ideal S4096x100001 .f32) (b : FVec Ideal S100001 .f32) :
    FVec Ideal S1024x100001 .f32 :=
  addf (Host.dotGeneral dot_S1024x4096_S4096x100001_S1024x100001_1_0_0_1_n_n none x w)
    (broadcastInDim S1024x100001 ![0, 1] bcast_S1x100001_S1024x100001_0_1 (broadcastInDim S1x100001 ![1] bcast_S100001_S1x100001_1 b))

/-- The reference's result: the first 100000 columns, each over the logistic function of the last. -/
def quotient (x : FVec Ideal S1024x4096 .f32) (w : FVec Ideal S4096x100001 .f32) (b : FVec Ideal S100001 .f32) :
    FVec Ideal S1024x100000 .f32 :=
  Host.divf (extractStridedSlice S1024x100000 ![0, 0] (affine x w b) slices_S1024x100001_S1024x100000_0_0)
    (broadcastInDim S1024x100000 ![0, 1] bcast_S1024x1_S1024x100000_0_1
      (Host.divf (broadcastInDim S1024x1 ![] bcast_S_S1024x1 (constant S_ .f32 0x3F800000#32))
        (addf (broadcastInDim S1024x1 ![] bcast_S_S1024x1 (constant S_ .f32 0x3F800000#32))
          (Host.exp (Host.negf (extractStridedSlice S1024x1 ![0, 100000] (affine x w b) slices_S1024x100001_S1024x1_0_100000))))))

/-- The affine map at row `i` and column `j`. -/
theorem affine_apply (x : FVec Ideal S1024x4096 .f32) (w : FVec Ideal S4096x100001 .f32) (b : FVec Ideal S100001 .f32)
    (i : Fin 1024) (j : Fin 100001) : affine x w b (ix2 i j) = logit x w b i j := by
  pointwise [affine, logit]

/-- The reference's result at row `i` and column `j`. -/
theorem quotient_apply (x : FVec Ideal S1024x4096 .f32) (w : FVec Ideal S4096x100001 .f32) (b : FVec Ideal S100001 .f32)
    (i : Fin 1024) (j : Fin 100000) :
    quotient x w b (ix2 i j) = Ideal.div (logit x w b i ⟨j, by omega⟩) (Ideal.logistic (logit x w b i 100000)) := by
  pointwise [quotient]
  simp only [affine_apply]
  rfl

end Reference

/-! ## The precondition -/

/-- The precondition at row `i`: the temperature logit isn't minus infinity. -/
theorem ne_bot_of_precondition (x : FVec Ideal Cert.Pre_temperature_logit_above_minus_infinity.S1024x4096 .f32)
    (w : FVec Ideal Cert.Pre_temperature_logit_above_minus_infinity.S4096x100001 .f32)
    (b : FVec Ideal Cert.Pre_temperature_logit_above_minus_infinity.S100001 .f32) (i : Fin 1024)
    (h : Cert.Pre_temperature_logit_above_minus_infinity.fn (F := Ideal) x w b (ix2 i 0) = 1#1) :
    logit x w b i 100000 ≠ ⊥ := by
  pointwise [Cert.Pre_temperature_logit_above_minus_infinity.fn] at h
  have h' : Ideal.ofBits .f32 4286578688#32 < logit x w b i 100000 := by
    by_contra hn
    rw [decide_eq_false (by exact hn)] at h
    exact absurd h (by decide)
  exact bot_le.trans_lt h' |>.ne'

/-! ## The equation -/

/-- A product with the reciprocal of a logistic value is the quotient by it, except at minus infinity, where the value is zero. -/
theorem mul_reciprocal (a t : EReal) (ht : t ≠ ⊥) :
    a * Ideal.div 1 (Ideal.logistic t) = Ideal.div a (Ideal.logistic t) := by
  induction t with
  | bot => exact absurd rfl ht
  | top => simp [Ideal.div]
  | coe r =>
    have h : ((1 + Real.exp (-r))⁻¹ : ℝ) ≠ 0 := by positivity
    rw [Ideal.logistic_coe, Ideal.div_coe h, Ideal.div_coe h, one_mul]

end Cert.Logits

end
-- ==== Proof.KernelIdealValue.lean ====
/-
  What the idealized program computes: every element of its result is the affine map's column over the logistic function
  of the temperature column, whatever the staging buffers held past the arrays' ends.
-/
module

public import proofs.«01_k».proof.Proof.Logits

@[expose] public section

noncomputable section

namespace Cert.KernelIdealRun

open Cert.KernelIdeal Cert.KernelIdeal.Gen Cert.Logits

open Idealize.ShloMosaic Idealize.ShloMosaic.TcCoe Idealize.SL.Sem
open Idealize.ShloMosaic.Pipeline (RDat)

/-! ## A block of an array, fetched into a staging buffer -/

/-- A place of a block that lies inside the array is among those that the transfer moves. -/
theorem lt_extent {o k d r : Nat} {c : Pipeline.Clip} (h : Pipeline.Clip.OkAt o k d c) (hr : r < k) (hp : o + r < d) :
    r < c.extent k := by
  cases c with
  | none => exact hr
  | some n => have := h.2.2; show r < n; omega

/-- After a fetch, a staging buffer's place `r` that stands for the array's place `p` holds what the array holds there. -/
theorem fill_inside {sg : RefSig} {G : Pipeline.Grid} (w : Pipeline.Window sg G) (hk : w.kind = .blocked) {α : Type} (t : Fin G.N)
    (d : w.block.Idx → α) (A : w.shape.Idx → α) (r : w.block.Idx) (p : w.shape.Idx)
    (hp : ∀ a, (p a : Nat) = w.index t a * w.size a + r a) :
    w.fill (G.coords t) d (fun y => A ((w.rect t).emb y)) r = A p := by
  have hm : ∀ a, (r a : Nat) < w.xsize (G.coords t) a := fun a => by
    have ho := w.hclip (G.coords t) a
    rw [hk] at ho
    exact lt_extent ho (r a).isLt ((hp a).symm.trans_lt (p a).isLt)
  unfold Pipeline.Window.fill
  rw [dif_pos ((w.moved_iff _ r).mpr hm)]
  exact congrArg A (funext fun a => Fin.ext ((w.rect_emb_val t _ a hk).trans (hp a).symm))

variable (m : (ℓ : Loc nD τ sig) → Buf (Elt Ideal) ℓ)

/-! ## The arguments, and what the first host operations make of them -/

/-- The first argument, the inputs. -/
abbrev inputs (c : Dev nD) : (⟨2, ![1024, 4096]⟩ : Shape).Idx → EReal := m ((c.tc : Thread nD τ).loc main_arg0)
/-- The second argument, the weights, the temperature's column last. -/
abbrev weights (c : Dev nD) : (⟨2, ![4096, 100001]⟩ : Shape).Idx → EReal := m ((c.tc : Thread nD τ).loc main_arg1)
/-- The third argument, the biases, the temperature's last. -/
abbrev biases (c : Dev nD) : (⟨1, ![100001]⟩ : Shape).Idx → EReal := m ((c.tc : Thread nD τ).loc main_arg2)

/-- The host transposes the weights. -/
theorem entry_weights (c : Dev nD) (j : Fin 100001) (k : Fin 4096) :
    (V1 m c main_v0 : S100001x4096.Idx → EReal) (ix2 j k) = weights m c (ix2 k j) := by
  have h : V1 m c main_v0 = transpose S100001x4096 [1, 0] (weights m c : FVec Ideal S4096x100001 .f32) transposes_S4096x100001_S100001x4096_1_0 := by
    show StableHlo.after hostOps0 (V0 m c) _ = _
    after_results
  rw [h]
  pointwise []

/-- The host cuts out the temperature's weights. -/
theorem entry_row (c : Dev nD) (k : Fin 4096) :
    (V1 m c main_v1 : S1x4096.Idx → EReal) (ix2 0 k) = weights m c (ix2 k 100000) := by
  have h : V1 m c main_v1 = extractStridedSlice S1x4096 ![100000, 0] (transpose S100001x4096 [1, 0] (weights m c : FVec Ideal S4096x100001 .f32)
      transposes_S4096x100001_S100001x4096_1_0) slices_S100001x4096_S1x4096_100000_0 := by
    show StableHlo.after hostOps0 (V0 m c) _ = _
    after_results
  rw [h]
  pointwise []

/-- The host cuts out the temperature's bias. -/
theorem entry_bias (c : Dev nD) :
    (V1 m c main_v4 : S1x1.Idx → EReal) (ix2 0 0) = biases m c (ix1 100000) := by
  have h : V1 m c main_v4 = shapeCast S1x1 (shapeCast S_ (extractStridedSlice S1 ![100000] (biases m c : FVec Ideal S100001 .f32)
      slices_S100001_S1_100000) shapeCasts_S1_S_) shapeCasts_S_S1x1 := by
    show StableHlo.after hostOps0 (V0 m c) _ = _
    after_results
    rfl
  rw [h]
  pointwise []

/-- The host lays the other biases out as a column. -/
theorem entry_biases (c : Dev nD) (j : Fin 100000) :
    (V1 m c main_v6 : S100000x1.Idx → EReal) (ix2 j 0) = biases m c (ix1 ⟨j, by omega⟩) := by
  have h : V1 m c main_v6 = shapeCast S100000x1 (extractStridedSlice S100000 ![0] (biases m c : FVec Ideal S100001 .f32)
      slices_S100001_S100000_0) shapeCasts_S100000_S100000x1 := by
    show StableHlo.after hostOps0 (V0 m c) _ = _
    after_results
    rfl
  rw [h]
  pointwise []

/-- The host leaves the inputs as they were. -/
theorem entry_inputs (c : Dev nD) : V1 m c main_arg0 = inputs m c := V1_of m c main_arg0 (by decide)

/-! ## What the first region leaves -/

/-- The reciprocal of the logistic function of row `i`'s temperature logit. -/
theorem scale_apply (c : Dev nD) (a : Fin 8) (i : Fin 1024) :
    scale m c (ix2 a i) = Ideal.div 1 (Ideal.logistic (logit (inputs m c) (weights m c) (biases m c) i 100000)) := by
  unfold scale
  rw [reciprocal_temperature, entry_bias, entry_inputs]
  refine congrArg (fun s => Ideal.div 1 (Ideal.logistic (s + biases m c (ix1 100000)))) (Finset.sum_congr rfl fun k _ => ?_)
  rw [entry_row, mul_comm]

/-- The first region's other result is the transposed input. -/
theorem xT_apply (c : Dev nD) (k : Fin 4096) (i : Fin 1024) : xT m c (ix2 k i) = inputs m c (ix2 i k) := by
  unfold xT
  rw [transposed_input, entry_inputs]

/-- Row 0 of the eight equal rows. -/
theorem topRow_apply (Y : S8x1024.Idx → EReal) (i : Fin 1024) : topRow (F := Ideal) Y (ix2 0 i) = Y (ix2 0 i) :=
  congrArg Y (funext fun a => Fin.ext (by fin_cases a <;> simp [Rect.unit, ix2]))

/-! ## What the second region leaves -/

/-- Column `j` at row `i`, as the kernel makes it: the logit times the reciprocal temperature. -/
def cell (c : Dev nD) (j : Fin 100000) (i : Fin 1024) : EReal :=
  logit (inputs m c) (weights m c) (biases m c) i ⟨j, by omega⟩
    * Ideal.div 1 (Ideal.logistic (logit (inputs m c) (weights m c) (biases m c) i 100000))

/-- The weights' blocks advance with the result's, -/
theorem index1_0 (t : Fin cfg1.N) (a : Fin 2) : win1_0.index t a = win1_4.index t a := by rfl
/-- and so do the biases', -/
theorem index1_3 (t : Fin cfg1.N) (a : Fin 2) : win1_3.index t a = win1_4.index t a := by rfl
/-- and the result's blocks span all its columns. -/
theorem index1_4_one (t : Fin cfg1.N) : win1_4.index t 1 = 0 := by rfl

/-- The second kernel's weights, at a place of the block that stands for row `j` of the transposed weights. -/
theorem fetched_weights (c : Dev nD) (t : Fin cfg1.N) (d0 : S1024x4096.Idx → EReal) (r : Fin 1024) (k : Fin 4096) (j : Fin 100001)
    (hj : (j : Nat) = win1_4.index t 0 * 1024 + r) :
    win1_0.fill (grid1.coords t) d0 ((win1_0.blk t).view.read (Elt Ideal) (mid m c main_v0)) (ix2 r k) = weights m c (ix2 k j) := by
  refine (fill_inside win1_0 rfl t d0 (mid m c main_v0) (ix2 r k) (ix2 j k) (fun a => ?_)).trans ?_
  · fin_cases a
    · exact hj
    · show (k : Nat) = win1_4.index t 1 * 4096 + k
      rw [index1_4_one]; omega
  · rw [mid_of m c main_v0 (by decide)]; exact entry_weights m c _ k

/-- The second kernel's biases, at a place of the block that stands for class `j`. -/
theorem fetched_biases (c : Dev nD) (t : Fin cfg1.N) (d3 : S1024x1.Idx → EReal) (r : Fin 1024) (j : Fin 100000)
    (hj : (j : Nat) = win1_4.index t 0 * 1024 + r) :
    win1_3.fill (grid1.coords t) d3 ((win1_3.blk t).view.read (Elt Ideal) (mid m c main_v6)) (ix2 r 0)
      = biases m c (ix1 ⟨j, by omega⟩) := by
  refine (fill_inside win1_3 rfl t d3 (mid m c main_v6) (ix2 r 0) (ix2 j 0) (fun a => ?_)).trans ?_
  · fin_cases a
    · exact hj
    · show (0 : Nat) = win1_4.index t 1 * 1 + 0
      rw [index1_4_one]
  · rw [mid_of m c main_v6 (by decide)]; exact entry_biases m c j

/-- An element of a block that the second kernel may leave, at a place inside the result array. -/
theorem outBlock_apply (c : Dev nD) (t : Fin cfg1.N) (X : S1024x1024.Idx → EReal) (hX : outBlock (F := Ideal) m c t X)
    (r i : Fin 1024) (j : Fin 100000) (hj : (j : Nat) = win1_4.index t 0 * 1024 + r) : X (ix2 r i) = cell m c j i := by
  obtain ⟨d0, d3, hX⟩ := hX
  rw [hX, scaled_block, topRow_apply, scale_apply, fetched_biases m c t d3 r j hj]
  unfold cell
  refine congrArg (fun s => (s + biases m c (ix1 ⟨j, by omega⟩)) * _) (Finset.sum_congr rfl fun k _ => ?_)
  rw [fetched_weights m c t d0 r k ⟨j, by omega⟩ hj, xT_apply, mul_comm]

/-- Whatever the second region may leave in its result array, its element at class `j` and row `i` is `cell`. -/
theorem array_apply (c : Dev nD) (G : S100000x1024.Idx → EReal) (h : (rd1 m c).ArrAt 4 cfg1.N G) (j : Fin 100000) (i : Fin 1024) :
    G (ix2 j i) = cell m c j i := by
  obtain ⟨X, hX, hA⟩ := RDat.ArrAt.exists_exact h
  let after : (w : Fin cfg1.W) → Fin cfg1.N → (cfg1.win w).block.Idx → Elt Ideal (cfg1.win w).elt :=
    Function.update (fun _ _ _ => Classical.arbitrary _) 4 X
  have hafter : after 4 = X := Function.update_self ..
  have key := Pipeline.Dat.arrAt_forall_of_covers ((rd1 m c).withAfter after) 4
    (fun (p : S100000x1024.Idx) (v : EReal) => ∀ (j : Fin 100000) (i : Fin 1024), p = ix2 j i → v = cell m c j i)
    (by decide +kernel) (fun t hf y j i hp => by
      obtain ⟨Y, -, ho⟩ := hX t t.isLt hf
      have hr : ∀ a : Fin 2, (ix2 j i a : Nat) = win1_4.index t a * win1_4.size a + y a := fun a => by
        rw [← hp]; exact win1_4.rect_emb_val t y a
      have h1 : (i : Nat) = y 1 := by have := hr 1; rw [index1_4_one, Nat.zero_mul, Nat.zero_add] at this; exact this
      have h0 : (j : Nat) = win1_4.index t 0 * 1024 + y 0 := hr 0
      have hy0 : (y 0 : Nat) < 1024 := (win1_4.xinj (grid1.coords t) y 0).isLt
      have e : win1_4.xinj (grid1.coords t) y = ix2 ⟨y 0, hy0⟩ i :=
        funext fun a => by
          refine Fin.ext ?_
          fin_cases a
          · rfl
          · exact h1.symm
      show after 4 t (win1_4.xinj (grid1.coords t) y) = _
      rw [hafter]
      exact (congrArg (X t) e).trans (outBlock_apply m c t (X t) ho ⟨y 0, hy0⟩ i j h0))
    (ix2 j i)
  rw [hA after fun u _ _ => by rw [hafter]]
  exact key j i rfl

end Cert.KernelIdealRun

end
-- ==== Proof.lean ====
/-
  The certificate's claims, assembled: the three frames, the (empty) list of rewrites, and the equation of kernel and
  reference over the extended reals.
-/
module

public import proofs.«01_k».proof.Defs
public import proofs.«01_k».proof.Proof.KernelIdealValue

@[expose] public section

noncomputable section

namespace Cert.Proof

open Idealize.ShloMosaic Idealize.ShloMosaic.TcCoe Idealize.SL.Sem

section Equation

open Cert.KernelIdeal Cert.KernelIdeal.Gen Cert.KernelIdealRun Cert.Logits

/-- Where no temperature logit is minus infinity, every memory that the kernel's run may end in holds the reference's
    quotient in the result. -/
theorem result_eq_quotient (m : (ℓ : Loc nD τ sig) → Buf (Elt Ideal) ℓ)
    (hpre : Cert.Pre_KernelIdeal_temperature_logit_above_minus_infinity m) (c : Dev nD) (s : MemSt nD τ sig (Elt Ideal))
    (h : Final m c s) :
    s.mem ((c.tc : Thread nD τ).loc main_v9) = quotient (inputs m c) (weights m c) (biases m c) := by
  obtain ⟨G, hG, hs⟩ := final_result m c s h
  refine hs.trans (funext fun (p : S1024x100000.Idx) => ?_)
  obtain ⟨i, j, rfl⟩ : ∃ (i : Fin 1024) (j : Fin 100000), p = ix2 i j := ⟨p 0, p 1, eq_ix2 p⟩
  have ht : logit (inputs m c) (weights m c) (biases m c) i 100000 ≠ ⊥ :=
    ne_bot_of_precondition _ _ _ i (congrFun (hpre c) (ix2 i 0))
  have hread : transpose S1024x100000 [1, 0] (G : FVec Ideal S100000x1024 .f32) transposes_S100000x1024_S1024x100000_1_0 (ix2 i j)
      = G (ix2 j i) := by
    pointwise []
  rw [quotient_apply]
  exact hread.trans ((array_apply m c G hG j i).trans (mul_reciprocal _ _ ht))

end Equation

theorem claim : Cert.Claim :=
  ⟨Cert.Kernel.Gen.facts, Cert.KernelIdeal.Gen.facts, Cert.ReferenceIdeal.Gen.facts, Cert.PreconditionFacts.facts,
    fun m g _ => Cert.KernelRun.frame m g,
    fun m g _ => Cert.KernelIdealRun.frame m g,
    fun m g _ => Cert.KernelIdealRun.frame m g,
    fun m g _ => Cert.ReferenceRun.frame m g,
    fun m g _ => Cert.ReferenceRun.frame m g,
    trivial,
    fun m g m' g' hpre hm => ⟨fun c => Cert.Logits.quotient (Cert.KernelIdealRun.inputs m c) (Cert.KernelIdealRun.weights m c)
        (Cert.KernelIdealRun.biases m c),
      (θ_run Cert.KernelIdeal.defs _ _).mono
        (fun r h c => ⟨result_eq_quotient m hpre c r.2 (h.1 c), Cert.KernelIdealRun.final_args m c r.2 (h.1 c)⟩)
        (Cert.KernelIdealRun.run_main m g),
      (θ_run Cert.ReferenceIdeal.defs _ _).mono
        (fun r h c => ⟨(h c).1.trans (by rw [(hm c).1, (hm c).2.1, (hm c).2.2]; rfl), (h c).2⟩)
        (Cert.ReferenceIdeal.Value.run m' g')⟩⟩

end Cert.Proof

end
